-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x7168 : Shape := ⟨3, ![16, 1, 7168]⟩
abbrev S20480x224x34 : Shape := ⟨3, ![20480, 224, 34]⟩
abbrev S16x7x32x32 : Shape := ⟨4, ![16, 7, 32, 32]⟩
abbrev S16x7168 : Shape := ⟨2, ![16, 7168]⟩
abbrev S34x224x20480 : Shape := ⟨3, ![34, 224, 20480]⟩
abbrev S16x20480 : Shape := ⟨2, ![16, 20480]⟩
abbrev S34x224x512 : Shape := ⟨3, ![34, 224, 512]⟩
abbrev S16x512 : Shape := ⟨2, ![16, 512]⟩
abbrev S1x32x512 : Shape := ⟨3, ![1, 32, 512]⟩
abbrev S32x512 : Shape := ⟨2, ![32, 512]⟩
abbrev S256x512 : Shape := ⟨2, ![256, 512]⟩
abbrev S16x256 : Shape := ⟨2, ![16, 256]⟩

abbrev nBuf : Space → Nat
  | .hbm => 7
  | .vmem => 5
  | .smem => 0
  | _ => 0

abbrev bufTy : (tb : Table) → Fin (tcTables nBuf tb) → BufTy
  | .hbm, ⟨0, _⟩ => ⟨S16x1x7168, .bf16⟩
  | .hbm, ⟨1, _⟩ => ⟨S20480x224x34, .i8⟩
  | .hbm, ⟨2, _⟩ => ⟨S16x7x32x32, .bf16⟩
  | .hbm, ⟨3, _⟩ => ⟨S16x7x32x32, .bf16⟩
  | .hbm, ⟨4, _⟩ => ⟨S16x7168, .bf16⟩
  | .hbm, ⟨5, _⟩ => ⟨S34x224x20480, .i8⟩
  | .hbm, ⟨6, _⟩ => ⟨S16x20480, .bf16⟩
  | .local _ .vmem, ⟨0, _⟩ => ⟨S16x7168, .bf16⟩
  | .local _ .vmem, ⟨1, _⟩ => ⟨S34x224x512, .i8⟩
  | .local _ .vmem, ⟨2, _⟩ => ⟨S34x224x512, .i8⟩
  | .local _ .vmem, ⟨3, _⟩ => ⟨S16x512, .bf16⟩
  | .local _ .vmem, ⟨4, _⟩ => ⟨S16x512, .bf16⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S34x224x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x1x7168 : Shape := ⟨3, ![16, 1, 7168]⟩
abbrev S20480x224x34 : Shape := ⟨3, ![20480, 224, 34]⟩
abbrev S20480x224x2 : Shape := ⟨3, ![20480, 224, 2]⟩
abbrev S20480x224 : Shape := ⟨2, ![20480, 224]⟩
abbrev S20480x224x32 : Shape := ⟨3, ![20480, 224, 32]⟩
abbrev S16x224x32 : Shape := ⟨3, ![16, 224, 32]⟩
abbrev S16x20480 : Shape := ⟨2, ![16, 20480]⟩
abbrev S20480x224x1 : Shape := ⟨3, ![20480, 224, 1]⟩

abbrev nBuf : Space → Nat
  | .hbm => 7
  | .vmem => 4
  | .smem => 0
  | _ => 0

abbrev bufTy : (tb : Table) → Fin (tcTables nBuf tb) → BufTy
  | .hbm, ⟨0, _⟩ => ⟨S16x1x7168, .bf16⟩
  | .hbm, ⟨1, _⟩ => ⟨S20480x224x34, .i8⟩
  | .hbm, ⟨2, _⟩ => ⟨S20480x224x2, .i8⟩
  | .hbm, ⟨3, _⟩ => ⟨S20480x224, .i16⟩
  | .hbm, ⟨4, _⟩ => ⟨S20480x224x32, .i8⟩
  | .hbm, ⟨5, _⟩ => ⟨S16x224x32, .bf16⟩
  | .hbm, ⟨6, _⟩ => ⟨S16x20480, .bf16⟩
  | .local _ .vmem, ⟨0, _⟩ => ⟨S16x224x32, .bf16⟩
  | .local _ .vmem, ⟨1, _⟩ => ⟨S20480x224, .i16⟩
  | .local _ .vmem, ⟨2, _⟩ => ⟨S20480x224x32, .i8⟩
  | .local _ .vmem, ⟨3, _⟩ => ⟨S16x20480, .bf16⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x224x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20480x224 .i16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20480x224x32 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x20480 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tile.lean ====
/-
  Hand-written, untrusted. The kernel body's result for one grid point, as an accumulation of 28 equal steps:
  step `t` multiplies 256 columns of the activations with 8 dequantised slabs of 32 code rows.
-/
module

public import proofs.«01_k».proof.Proof.Gen.KernelIdeal.Frame
public import Idealize.ShloMosaic.Lib.Pipeline.ValueKit

@[expose] public section

set_option maxRecDepth 16384

noncomputable section

namespace Cert.KernelIdeal.Tile

open Cert.KernelIdeal Cert.KernelIdeal.Gen Idealize.ShloMosaic Idealize.SL.Sem

variable {F : FTy → Type} [FloatOps F]

/-- The scales of 32 blocks by 512 outputs, decoded from their low and high bytes as the body decodes them. -/
def scales (lo hi : Vec F S1x32x512 .i8) : FVec F S32x512 .f32 :=
  k0_pay11 (k0_pay6 lo hi) (k0_pay7 lo hi) (k0_pay8 lo hi) (k0_pay9 lo hi) (k0_pay10 lo hi)

/-- One row of codes for 32 blocks by 512 outputs, dequantised with the blocks' scales. -/
def slab (d : FVec F S32x512 .f32) (q : Vec F S1x32x512 .i8) : FVec F S32x512 .bf16 :=
  truncf .bf16 (mulf (sitofp .f32 (shapeCast S32x512 q shapeCasts_S1x32x512_S32x512)) d) bitsLt_bf16_f32

/-- The product of 256 columns of the activations with eight slabs under each other. -/
def product (x : Vec F S16x256 .bf16) (p0 p1 p2 p3 p4 p5 p6 p7 : FVec F S32x512 .bf16) : FVec F S16x512 .f32 :=
  matmul dot_S16x256_S256x512_S16x512_1_0_0_1_n_n none (shapeCast S16x256 x shapeCasts_S16x256_S16x256)
    (concatenate S256x512 0 [⟨S32x512, p0⟩, ⟨S32x512, p1⟩, ⟨S32x512, p2⟩, ⟨S32x512, p3⟩, ⟨S32x512, p4⟩, ⟨S32x512, p5⟩,
      ⟨S32x512, p6⟩, ⟨S32x512, p7⟩]
      concatenates_S32x512_S32x512_S32x512_S32x512_S32x512_S32x512_S32x512_S32x512_S256x512_d0)
    (constant S16x512 .f32 0x00000000#32)

/-- Row `r` (a scale byte or a code) of the 32 blocks of group `g`. -/
def row (x1 : Vec F S34x224x512 .i8) (r : Fin 34) (g : Fin 7) : Vec F S1x32x512 .i8 :=
  View.ld x1 (Rect.unit (s := S34x224x512) ![r.val, 32 * g.val, 0] S1x32x512.size (by
    intro a; match a with
    | ⟨0, _⟩ => show r.val + 1 ≤ 34; omega
    | ⟨1, _⟩ => show 32 * g.val + 32 ≤ 224; omega
    | ⟨2, _⟩ => show 0 + 512 ≤ 512; omega))

/-- Columns `256 t` to `256 t + 255` of the activations. -/
def cols (x0 : Vec F S16x7168 .bf16) (t : Fin 28) : Vec F S16x256 .bf16 :=
  View.ld x0 (Rect.unit (s := S16x7168) ![0, 256 * t.val] S16x256.size (by
    intro a; match a with
    | ⟨0, _⟩ => show 0 + 16 ≤ 16; omega
    | ⟨1, _⟩ => show 256 * t.val + 256 ≤ 7168; omega))

/-- The group of step `t`. -/
def grp (t : Fin 28) : Fin 7 := ⟨t.val / 4, by omega⟩

/-- The row of codes that slab `j` of step `t` takes. -/
def code (t : Fin 28) (j : Fin 8) : Fin 34 := ⟨2 + (8 * (t.val % 4) + j.val), by omega⟩

/-- What step `t` adds to the accumulator. -/
def step (x0 : Vec F S16x7168 .bf16) (x1 : Vec F S34x224x512 .i8) (t : Fin 28) : FVec F S16x512 .f32 :=
  let d := scales (row x1 0 (grp t)) (row x1 1 (grp t))
  let p := fun j => slab d (row x1 (code t j) (grp t))
  product (cols x0 t) (p 0) (p 1) (p 2) (p 3) (p 4) (p 5) (p 6) (p 7)

/-- The accumulator after the first `n` steps. -/
def acc (x0 : Vec F S16x7168 .bf16) (x1 : Vec F S34x224x512 .i8) : (n : ℕ) → n ≤ 28 → FVec F S16x512 .f32
  | 0, _ => k0_pay2
  | n + 1, h => addf (acc x0 x1 n (Nat.le_of_succ_le h)) (step x0 x1 ⟨n, h⟩)

/-- The body leaves the accumulator after its 28 steps, rounded to bf16. -/
theorem out_eq (x0 : Vec F S16x7168 .bf16) (x1 : Vec F S34x224x512 .i8) :
    out0_2 x0 x1 = truncf .bf16 (acc x0 x1 28 (le_refl 28)) bitsLt_bf16_f32 := by
  have hz : (![0, 0] : Fin S16x512.rank → Nat) = fun _ => 0 := funext fun a => by fin_cases a <;> rfl
  unfold_out out0_2
  rw [View.canon_unit_zero hz]
  rfl

end Cert.KernelIdeal.Tile

end
-- ==== Proof.Decode.lean ====
/-
  Hand-written, untrusted. The scale of one block: the kernel computes it from its low and high byte with integer
  operations and two reinterpretations of a 32-bit word; at the ideal values it is what the 16-bit pattern of the two
  bytes denotes in the half-precision format. All 65536 patterns are covered: both zeros, subnormals, normals,
  infinities and NaNs.
-/
module

public import Idealize.ShloMosaic.PureOps.Ideal.Laws

@[expose] public section

noncomputable section

namespace Cert.Decode

open Idealize.ShloMosaic Idealize.SL.Sem

/-- The 15 bits below the sign, in a 32-bit word. -/
def mag (lo hi : BitVec 8) : BitVec 32 :=
  IntOp.ori (IntOp.shli ArithUnit.vector (IntOp.andi (hi.setWidth 32) 127#32) 8#32) (lo.setWidth 32)

/-- The sign, at the top bit of a 32-bit word. -/
def sgn (hi : BitVec 8) : BitVec 32 :=
  IntOp.shli ArithUnit.vector (IntOp.andi (hi.setWidth 32) 128#32) 24#32

/-- The single-precision pattern with the magnitude's fields, its exponent moved by the bias `c`, and the sign. -/
def word (c : BitVec 32) (lo hi : BitVec 8) : BitVec 32 :=
  IntOp.ori (IntOp.addi (IntOp.shli ArithUnit.vector (mag lo hi) 13#32) c) (sgn hi)

/-- The kernel's scale: a signed multiple of 2⁻²⁴ below 1024, the pattern of an infinity or a NaN from 31744 on, and
    a normal number between them. -/
def scale (lo hi : BitVec 8) : EReal :=
  Scalar.select (IntOp.cmpi CmpIPredicate.slt (mag lo hi) 1024#32)
    (FloatOps.sitofp (F := Ideal) FTy.f32 (mag lo hi) *
      Scalar.select (IntOp.cmpi CmpIPredicate.ne (sgn hi) 0#32)
        (Ideal.ofBits FTy.f32 3011510272#32) (Ideal.ofBits FTy.f32 864026624#32) : EReal)
    (Scalar.select (IntOp.cmpi CmpIPredicate.sge (mag lo hi) 31744#32)
      (Ideal.ofBits FTy.f32 (word 1879048192#32 lo hi)) (Ideal.ofBits FTy.f32 (word 939524096#32 lo hi)))

/-! ### The words as numbers -/

/-- A number or-ed below the bits of another is added. -/
theorem or_below (a b k : ℕ) (h : b < 2 ^ k) : a * 2 ^ k ||| b = a * 2 ^ k + b := by
  rw [← Nat.shiftLeft_eq, Nat.shiftLeft_add_eq_or_of_lt h]

/-- A shift by less than the width. -/
theorem shl_toNat (x : BitVec 32) (k : ℕ) (h : k < 32) :
    (IntOp.shli ArithUnit.vector x (BitVec.ofNat 32 k)).toNat = x.toNat * 2 ^ k % 4294967296 := by
  have e : (BitVec.ofNat 32 k).toNat = k := by rw [BitVec.toNat_ofNat]; exact Nat.mod_eq_of_lt (h.trans (by norm_num))
  have e' : IntOp.shli ArithUnit.vector x (BitVec.ofNat 32 k) = x <<< BitVec.ofNat 32 k := if_pos (by rw [e]; exact h)
  rw [e', BitVec.shiftLeft_eq', BitVec.toNat_shiftLeft, e, Nat.shiftLeft_eq]

theorem or_toNat (x y : BitVec 32) : (IntOp.ori x y).toNat = x.toNat ||| y.toNat := BitVec.toNat_or ..

theorem add_toNat (x y : BitVec 32) : (IntOp.addi x y).toNat = (x.toNat + y.toNat) % 4294967296 := BitVec.toNat_add ..

/-- A byte masked, as a number. -/
theorem and_toNat (x : BitVec 8) (k : ℕ) (h : k < 256) :
    (IntOp.andi (x.setWidth 32) (BitVec.ofNat 32 k)).toNat = x.toNat &&& k := by
  have hx : x.toNat < 256 := x.isLt
  rw [show IntOp.andi (x.setWidth 32) (BitVec.ofNat 32 k) = x.setWidth 32 &&& BitVec.ofNat 32 k from rfl, BitVec.toNat_and,
    BitVec.toNat_setWidth, BitVec.toNat_ofNat, Nat.mod_eq_of_lt (hx.trans (by norm_num)),
    Nat.mod_eq_of_lt (h.trans (by norm_num))]

/-- The magnitude is the low seven bits of the high byte above the low byte. -/
theorem mag_toNat (lo hi : BitVec 8) : (mag lo hi).toNat = hi.toNat % 128 * 256 + lo.toNat := by
  have hl := lo.isLt
  have hh := hi.isLt
  have h127 : hi.toNat &&& 127 = hi.toNat % 128 := Nat.and_two_pow_sub_one_eq_mod hi.toNat 7
  have e2 : (lo.setWidth 32).toNat = lo.toNat := by
    rw [BitVec.toNat_setWidth]; exact Nat.mod_eq_of_lt (hl.trans (by norm_num))
  have e3 : hi.toNat % 128 * 2 ^ 8 % 4294967296 = hi.toNat % 128 * 2 ^ 8 := Nat.mod_eq_of_lt (by omega)
  rw [mag, or_toNat, shl_toNat _ 8 (by norm_num), and_toNat _ 127 (by norm_num), h127, e2, e3]
  exact or_below _ _ 8 hl

/-- The sign word is the high byte's top bit, times 2³¹. -/
theorem sgn_toNat (hi : BitVec 8) : (sgn hi).toNat = hi.toNat / 128 * 2 ^ 31 := by
  have h128 : ∀ n < 256, n &&& 128 = n / 128 * 128 := by decide +kernel
  have hh := hi.isLt
  have e : hi.toNat / 128 * 128 * 2 ^ 24 % 4294967296 = hi.toNat / 128 * 2 ^ 31 := by omega
  rw [sgn, shl_toNat _ 24 (by norm_num), and_toNat _ 128 (by norm_num), h128 _ hh, e]

/-- A pattern the kernel reinterprets, as a number. -/
theorem word_toNat (c : BitVec 32) (lo hi : BitVec 8) (h : (mag lo hi).toNat * 8192 + c.toNat < 2147483648) :
    (word c lo hi).toNat = hi.toNat / 128 * 2 ^ 31 + ((mag lo hi).toNat * 8192 + c.toNat) := by
  have e1 : (mag lo hi).toNat * 2 ^ 13 % 4294967296 = (mag lo hi).toNat * 8192 :=
    Nat.mod_eq_of_lt (by norm_num; linarith)
  have e2 : ((mag lo hi).toNat * 8192 + c.toNat) % 4294967296 = (mag lo hi).toNat * 8192 + c.toNat :=
    Nat.mod_eq_of_lt (by linarith)
  rw [← or_below _ _ 31 (by norm_num; exact h), Nat.or_comm, ← sgn_toNat, word, or_toNat, add_toNat,
    shl_toNat _ 13 (by norm_num), e1, e2]

/-! ### What a pattern of given fields denotes -/

/-- The number of sign `s`, exponent field `x` and fraction `f` in a format of `e` exponent and `m` fraction bits. -/
def ofFields (e m s x f : ℕ) : EReal :=
  if x = 2 ^ e - 1 then (if f = 0 then (if s = 1 then ⊥ else ⊤) else ⊥)
  else if x = 0 then (((if s = 1 then -1 else 1) * f * (2 : ℝ) ^ (1 - (2 ^ (e - 1) - 1) - m : ℤ) : ℝ) : EReal)
  else (((if s = 1 then -1 else 1) * (2 ^ m + f : ℕ) * (2 : ℝ) ^ ((x : ℤ) - (2 ^ (e - 1) - 1) - m) : ℝ) : EReal)

/-- A pattern denotes the number of its fields. -/
theorem ieee_fields (e m : ℕ) {w : ℕ} (b : BitVec w) (s x f : ℕ) (hs : s < 2) (hx : x < 2 ^ e) (hf : f < 2 ^ m)
    (hb : b.toNat = s * 2 ^ (e + m) + (x * 2 ^ m + f)) : Ideal.ieee e m b = ofFields e m s x f := by
  have hxf : x * 2 ^ m + f < 2 ^ (e + m) := by
    have := Nat.mul_le_mul_right (2 ^ m) (Nat.succ_le_of_lt hx)
    rw [pow_add]; rw [Nat.succ_mul] at this; omega
  have hfr : (b.extractLsb' 0 m).toNat = f := by
    rw [BitVec.extractLsb'_toNat, hb, Nat.shiftRight_zero, pow_add]
    rw [show s * (2 ^ e * 2 ^ m) + (x * 2 ^ m + f) = f + 2 ^ m * (s * 2 ^ e + x) by ring, Nat.add_mul_mod_self_left,
      Nat.mod_eq_of_lt hf]
  have hex : (b.extractLsb' m e).toNat = x := by
    rw [BitVec.extractLsb'_toNat, hb, Nat.shiftRight_eq_div_pow, pow_add]
    rw [show s * (2 ^ e * 2 ^ m) + (x * 2 ^ m + f) = f + 2 ^ m * (x + 2 ^ e * s) by ring,
      Nat.add_mul_div_left _ _ (by positivity), Nat.div_eq_of_lt hf, zero_add, Nat.add_mul_mod_self_left, Nat.mod_eq_of_lt hx]
  have hsg : (b.extractLsb' (e + m) 1).toNat = s := by
    rw [BitVec.extractLsb'_toNat, hb, Nat.shiftRight_eq_div_pow,
      show s * 2 ^ (e + m) + (x * 2 ^ m + f) = (x * 2 ^ m + f) + 2 ^ (e + m) * s by ring,
      Nat.add_mul_div_left _ _ (by positivity), Nat.div_eq_of_lt hxf, zero_add, Nat.mod_eq_of_lt (by simpa using hs)]
  have hneg : (b.extractLsb' (e + m) 1 == 1#1) = decide (s = 1) := by
    rw [Bool.eq_iff_iff, beq_iff_eq, decide_eq_true_iff, ← BitVec.toNat_inj, hsg]; rfl
  simp only [Ideal.ieee, hfr, hex, hneg, ofFields, decide_eq_true_eq]

/-- The half-precision pattern of two bytes. -/
theorem half_fields (lo hi : BitVec 8) :
    Ideal.ofBits .f16 (hi ++ lo) = ofFields 5 10 (hi.toNat / 128) ((hi.toNat % 128 * 256 + lo.toNat) / 1024)
      ((hi.toNat % 128 * 256 + lo.toNat) % 1024) := by
  have hl := lo.isLt
  have hh := hi.isLt
  refine ieee_fields 5 10 _ _ _ _ (by omega) (by omega) (by omega) ?_
  rw [BitVec.toNat_append, ← Nat.shiftLeft_add_eq_or_of_lt hl, Nat.shiftLeft_eq]
  omega

/-- A single-precision pattern of the kernel, its exponent field moved by `a`. -/
theorem single_fields (a : ℕ) (c : BitVec 32) (hc : c.toNat = a * 8388608) (lo hi : BitVec 8)
    (h : (mag lo hi).toNat / 1024 + a < 256) :
    Ideal.ofBits .f32 (word c lo hi) = ofFields 8 23 (hi.toNat / 128) ((mag lo hi).toNat / 1024 + a)
      ((mag lo hi).toNat % 1024 * 8192) := by
  have hh := hi.isLt
  refine ieee_fields 8 23 _ _ _ _ (by omega) (by omega) (by omega) ?_
  rw [word_toNat c lo hi (by omega)]
  omega

/-! ### The two formats agree -/

/-- Subnormals: a signed multiple of 2⁻²⁴. -/
theorem ofFields_subnormal (s f : ℕ) :
    ofFields 5 10 s 0 f = (((if s = 1 then -1 else 1) * f * (2 : ℝ) ^ (-24 : ℤ) : ℝ) : EReal) := by
  simp [ofFields]

/-- Infinities and NaNs keep their class, infinities their sign. -/
theorem ofFields_special (s f : ℕ) : ofFields 8 23 s 255 (f * 8192) = ofFields 5 10 s 31 f := by
  simp [ofFields]

/-- Normal numbers keep their value. -/
theorem ofFields_normal (s x f : ℕ) (h0 : x ≠ 0) (h1 : x < 31) :
    ofFields 8 23 s (x + 112) (f * 8192) = ofFields 5 10 s x f := by
  unfold ofFields
  rw [if_neg (show ¬x + 112 = 2 ^ 8 - 1 by omega), if_neg (show ¬x + 112 = 0 by omega),
    if_neg (show ¬x = 2 ^ 5 - 1 by omega), if_neg h0]
  congr 1
  rw [mul_assoc, mul_assoc]
  congr 1
  rw [show ((x + 112 : ℕ) : ℤ) - (2 ^ (8 - 1) - 1) - (23 : ℕ) = ((x : ℤ) - (2 ^ (5 - 1) - 1) - (10 : ℕ)) + (-13) by push_cast; ring,
    zpow_add₀ (by norm_num)]
  push_cast
  generalize (2 : ℝ) ^ ((x : ℤ) - (2 ^ (5 - 1) - 1) - 10) = y
  norm_num
  ring

/-! ### The scale -/

theorem slt_iff (x : BitVec 32) (n : ℕ) (hx : x.toNat < 2147483648) (hn : n < 2147483648) :
    IntOp.cmpi CmpIPredicate.slt x (BitVec.ofNat 32 n) = 1 ↔ x.toNat < n := by
  have : x.slt (BitVec.ofNat 32 n) = decide (x.toNat < n) := by
    rw [Bool.eq_iff_iff, BitVec.slt_iff_toInt_lt, BitVec.toInt_eq_toNat_of_lt (by omega),
      BitVec.toInt_eq_toNat_of_lt (by rw [BitVec.toNat_ofNat]; omega), BitVec.toNat_ofNat, decide_eq_true_iff]
    omega
  simp only [IntOp.cmpi, this]
  by_cases h : x.toNat < n <;> simp [h]

theorem sge_iff (x : BitVec 32) (n : ℕ) (hx : x.toNat < 2147483648) (hn : n < 2147483648) :
    IntOp.cmpi CmpIPredicate.sge x (BitVec.ofNat 32 n) = 1 ↔ n ≤ x.toNat := by
  have : (BitVec.ofNat 32 n).sle x = decide (n ≤ x.toNat) := by
    rw [Bool.eq_iff_iff, BitVec.sle_iff_toInt_le, BitVec.toInt_eq_toNat_of_lt (x := x) (by omega),
      BitVec.toInt_eq_toNat_of_lt (by rw [BitVec.toNat_ofNat]; omega), BitVec.toNat_ofNat, decide_eq_true_iff]
    omega
  simp only [IntOp.cmpi, this]
  by_cases h : n ≤ x.toNat <;> simp [h]

theorem sgn_ne_iff (hi : BitVec 8) : IntOp.cmpi CmpIPredicate.ne (sgn hi) 0#32 = 1 ↔ hi.toNat / 128 = 1 := by
  have hh := hi.isLt
  have : (sgn hi != 0#32) = decide (hi.toNat / 128 = 1) := by
    rw [Bool.eq_iff_iff, bne_iff_ne, decide_eq_true_iff, Ne, ← BitVec.toNat_inj, sgn_toNat]
    simp only [BitVec.toNat_ofNat, Nat.zero_mod]
    omega
  simp only [IntOp.cmpi, this]
  by_cases h : hi.toNat / 128 = 1 <;> simp [h]

theorem ofBits_tiny : Ideal.ofBits .f32 864026624#32 = (((2 : ℝ) ^ (-24 : ℤ) : ℝ) : EReal) := by
  rw [show Ideal.ofBits .f32 864026624#32 = ofFields 8 23 0 103 0 from
    ieee_fields 8 23 864026624#32 0 103 0 (by norm_num) (by norm_num) (by norm_num) rfl]
  unfold ofFields
  rw [if_neg (by norm_num), if_neg (by norm_num)]
  norm_num

theorem ofBits_neg_tiny : Ideal.ofBits .f32 3011510272#32 = ((-(2 : ℝ) ^ (-24 : ℤ) : ℝ) : EReal) := by
  rw [show Ideal.ofBits .f32 3011510272#32 = ofFields 8 23 1 103 0 from
    ieee_fields 8 23 3011510272#32 1 103 0 (by norm_num) (by norm_num) (by norm_num) rfl]
  unfold ofFields
  rw [if_neg (by norm_num), if_neg (by norm_num)]
  norm_num

/-- The kernel's scale is the half-precision number of the two bytes. -/
theorem scale_eq (lo hi : BitVec 8) : scale lo hi = Ideal.ofBits .f16 (hi ++ lo) := by
  have hl := lo.isLt
  have hh := hi.isLt
  have hm := mag_toNat lo hi
  rw [half_fields, ← hm]
  unfold scale
  by_cases h1 : (mag lo hi).toNat < 1024
  · rw [Scalar.select, if_pos ((slt_iff _ 1024 (by omega) (by norm_num)).mpr h1), Nat.div_eq_of_lt h1, Nat.mod_eq_of_lt h1,
      ofFields_subnormal, ofBits_tiny, ofBits_neg_tiny]
    have hi' : (mag lo hi).toInt = (mag lo hi).toNat := BitVec.toInt_eq_toNat_of_lt (by omega)
    have hf : FloatOps.sitofp (F := Ideal) FTy.f32 (mag lo hi) = (((mag lo hi).toNat : ℝ) : EReal) := by
      show (((mag lo hi).toInt : ℝ) : EReal) = _
      rw [hi']; norm_cast
    rw [hf, Scalar.select]
    by_cases hs : hi.toNat / 128 = 1
    · rw [if_pos ((sgn_ne_iff hi).mpr hs), if_pos hs, ← EReal.coe_mul]
      congr 1; ring
    · rw [if_neg (fun h => hs ((sgn_ne_iff hi).mp h)), if_neg hs, ← EReal.coe_mul]
      congr 1; ring
  · rw [Scalar.select, if_neg (fun h => h1 ((slt_iff _ 1024 (by omega) (by norm_num)).mp h)), Scalar.select]
    by_cases h2 : 31744 ≤ (mag lo hi).toNat
    · rw [if_pos ((sge_iff _ 31744 (by omega) (by norm_num)).mpr h2), single_fields 224 _ (by decide) lo hi (by omega),
        show (mag lo hi).toNat / 1024 = 31 by omega, ofFields_special]
    · rw [if_neg (fun h => h2 ((sge_iff _ 31744 (by omega) (by norm_num)).mp h)),
        single_fields 112 _ (by decide) lo hi (by omega), ofFields_normal _ _ _ (by omega) (by omega)]

end Cert.Decode

end
-- ==== Proof.Entries.lean ====
/-
  Hand-written, untrusted. The kernel body's accumulator read at one entry (row `i`, output `n` of the block), at the
  ideal values: a sum of products activation × (code × scale).
-/
module

public import proofs.«01_k».proof.Proof.Tile
public import proofs.«01_k».proof.Proof.Decode
public import Idealize.ShloMosaic.Lib.Pointwise

@[expose] public section

set_option maxRecDepth 16384

noncomputable section

namespace Cert.KernelIdeal.Tile

open Cert.KernelIdeal Cert.KernelIdeal.Gen Cert.Decode Idealize.ShloMosaic Idealize.SL.Sem

/-- A decoded scale is that of its two bytes. -/
theorem scales_at (lo hi : Vec Ideal S1x32x512 .i8) (b : Fin 32) (n : Fin 512) :
    scales (F := Ideal) lo hi (ix2 b n) = scale (lo (ix3 0 b n)) (hi (ix3 0 b n)) := by
  pointwise [scales, k0_pay11, k0_pay10, k0_pay9, k0_pay8, k0_pay7, k0_pay6, k0_pay5, k0_pay4, k0_pay3]
  rfl

/-- A dequantised weight is its code times its block's scale. -/
theorem slab_at (d : FVec Ideal S32x512 .f32) (q : Vec Ideal S1x32x512 .i8) (b : Fin 32) (n : Fin 512) :
    slab (F := Ideal) d q (ix2 b n) = FloatOps.sitofp (F := Ideal) .f32 (q (ix3 0 b n)) * d (ix2 b n) := by
  pointwise [slab]

/-- A row of the weights' block. -/
theorem row_at (x1 : Vec Ideal S34x224x512 .i8) (r : Fin 34) (g : Fin 7) (b : Fin 32) (n : Fin 512) :
    row (F := Ideal) x1 r g (ix3 0 b n) = x1 (ix3 r ⟨32 * g.val + b.val, by omega⟩ n) := by
  pointwise [row]

/-- A column of the activations. -/
theorem cols_at (x0 : Vec Ideal S16x7168 .bf16) (t : Fin 28) (i : Fin 16) (k : Fin 256) :
    cols (F := Ideal) x0 t (ix2 i k) = x0 (ix2 i ⟨256 * t.val + k.val, by omega⟩) := by
  pointwise [cols]

/-- Entry `32 j + b` of eight stacked slabs is entry `b` of slab `j`. -/
theorem stacked {α : Type} (p : Fin 8 → Fin 32 → α) (k : ℕ) (j : Fin 8) (b : Fin 32) (hk : k = j.val * 32 + b.val) :
    (if h : k < 32 then p 0 ⟨k, h⟩
      else if h : k - 32 < 32 then p 1 ⟨k - 32, h⟩
      else if h : k - 32 - 32 < 32 then p 2 ⟨k - 32 - 32, h⟩
      else if h : k - 32 - 32 - 32 < 32 then p 3 ⟨k - 32 - 32 - 32, h⟩
      else if h : k - 32 - 32 - 32 - 32 < 32 then p 4 ⟨k - 32 - 32 - 32 - 32, h⟩
      else if h : k - 32 - 32 - 32 - 32 - 32 < 32 then p 5 ⟨k - 32 - 32 - 32 - 32 - 32, h⟩
      else if h : k - 32 - 32 - 32 - 32 - 32 - 32 < 32 then p 6 ⟨k - 32 - 32 - 32 - 32 - 32 - 32, h⟩
      else p 7 ⟨k - 32 - 32 - 32 - 32 - 32 - 32 - 32, by omega⟩) = p j b := by
  have hj := j.isLt
  have hb := b.isLt
  split_ifs <;> refine congrArg₂ p (Fin.ext ?_) (Fin.ext ?_) <;> dsimp only [Fin.isValue, Fin.coe_ofNat_eq_mod] <;> omega

/-- The product with eight slabs is the sum over the slabs of the products with each. -/
theorem product_at (x : Vec Ideal S16x256 .bf16) (p : Fin 8 → FVec Ideal S32x512 .bf16) (i : Fin 16) (n : Fin 512) :
    product (F := Ideal) x (p 0) (p 1) (p 2) (p 3) (p 4) (p 5) (p 6) (p 7) (ix2 i n)
      = ∑ j : Fin 8, ∑ b : Fin 32, x (ix2 i ⟨j.val * 32 + b.val, by omega⟩) * p j (ix2 b n) := by
  pointwise [product]
  rw [Fin.sum_univ_tiles 8 32 rfl]
  refine Finset.sum_congr rfl fun j _ => Finset.sum_congr rfl fun b _ => ?_
  refine congrArg _ ?_
  exact stacked (fun j b => p j (ix2 b n)) (j.val * 32 + b.val) j b rfl

/-- The weight that code row `r` and the scale bytes of block `B` give for output `n`. -/
def weight (x1 : Vec Ideal S34x224x512 .i8) (r : Fin 34) (B : Fin 224) (n : Fin 512) : EReal :=
  FloatOps.sitofp (F := Ideal) .f32 (x1 (ix3 r B n)) * scale (x1 (ix3 0 B n)) (x1 (ix3 1 B n))

/-- What step `t` adds at an entry. -/
theorem step_at (x0 : Vec Ideal S16x7168 .bf16) (x1 : Vec Ideal S34x224x512 .i8) (t : Fin 28) (i : Fin 16) (n : Fin 512) :
    step (F := Ideal) x0 x1 t (ix2 i n) = ∑ j : Fin 8, ∑ b : Fin 32,
      x0 (ix2 i ⟨256 * t.val + (j.val * 32 + b.val), by omega⟩)
        * weight x1 (code t j) ⟨32 * (grp t).val + b.val, by omega⟩ n := by
  refine (product_at (cols x0 t) (fun j => slab (scales (row x1 0 (grp t)) (row x1 1 (grp t))) (row x1 (code t j) (grp t)))
    i n).trans ?_
  refine Finset.sum_congr rfl fun j _ => Finset.sum_congr rfl fun b _ => ?_
  rw [cols_at, slab_at, scales_at, row_at, row_at, row_at]
  rfl

/-- The accumulator at an entry is the sum of the steps. -/
theorem acc_at (x0 : Vec Ideal S16x7168 .bf16) (x1 : Vec Ideal S34x224x512 .i8) (n : ℕ) (h : n ≤ 28) (i : Fin 16) (o : Fin 512) :
    acc (F := Ideal) x0 x1 n h (ix2 i o) = ∑ t : Fin n, step (F := Ideal) x0 x1 ⟨t.val, by omega⟩ (ix2 i o) := by
  induction n with
  | zero => pointwise [acc, k0_pay2]; rfl
  | succ n ih =>
    rw [Fin.sum_univ_castSucc]
    exact congrArg (· + step (F := Ideal) x0 x1 ⟨n, h⟩ (ix2 i o)) (ih (Nat.le_of_succ_le h))

/-- The body's result at an entry. -/
theorem out_at (x0 : Vec Ideal S16x7168 .bf16) (x1 : Vec Ideal S34x224x512 .i8) (i : Fin 16) (n : Fin 512) :
    out0_2 (F := Ideal) x0 x1 (ix2 i n) = ∑ t : Fin 28, ∑ j : Fin 8, ∑ b : Fin 32,
      x0 (ix2 i ⟨256 * t.val + (j.val * 32 + b.val), by omega⟩)
        * weight x1 (code t j) ⟨32 * (grp t).val + b.val, by omega⟩ n := by
  rw [out_eq]
  refine (acc_at x0 x1 28 (le_refl 28) i n).trans ?_
  exact Finset.sum_congr rfl fun t _ => step_at x0 x1 t i n

end Cert.KernelIdeal.Tile

end
-- ==== Proof.Spec.lean ====
/-
  Hand-written, untrusted. The result as mathematics: a linear layer whose weight for output `n`, block `B` and lane `j`
  is the block's code times the half-precision scale in the block's first two bytes.
-/
module

public import Idealize.ShloMosaic.PureOps.Ideal.Laws

@[expose] public section

noncomputable section

namespace Cert.Spec

open Idealize.ShloMosaic Idealize.SL.Sem

/-- The weight of a code and the two scale bytes of its block. -/
def weight (q lo hi : BitVec 8) : EReal := FloatOps.sitofp (F := Ideal) .f32 q * Ideal.ofBits .f16 (hi ++ lo)

/-- The summand of block `B` and lane `j` for row `i` and output `n`. -/
def summand (x : Fin 16 → Fin 7168 → EReal) (w : Fin 20480 → Fin 224 → Fin 34 → BitVec 8) (i : Fin 16) (n : Fin 20480)
    (B : Fin 224) (j : Fin 32) : EReal :=
  x i ⟨B.val * 32 + j.val, by omega⟩ * weight (w n B ⟨2 + j.val, by omega⟩) (w n B 0) (w n B 1)

/-- The result: for row `i` and output `n`, the sum over the blocks and lanes. -/
def Y (x : Fin 16 → Fin 7168 → EReal) (w : Fin 20480 → Fin 224 → Fin 34 → BitVec 8) (i : Fin 16) (n : Fin 20480) : EReal :=
  ∑ B : Fin 224, ∑ j : Fin 32, summand x w i n B j

/-- The kernel's order of summation: 28 steps, in each eight code rows `j` of the 32 blocks of its group. Step `t` is
    quarter `t % 4` of group `t / 4`, so every block and lane occurs once. -/
theorem regroup (g : Fin 224 → Fin 32 → EReal) :
    ∑ t : Fin 28, ∑ j : Fin 8, ∑ b : Fin 32, g ⟨32 * (t.val / 4) + b.val, by omega⟩ ⟨8 * (t.val % 4) + j.val, by omega⟩
      = ∑ B : Fin 224, ∑ j : Fin 32, g B j := by
  rw [← Finset.sum_product', ← Finset.sum_product', ← Finset.sum_product']
  refine Finset.sum_nbij'
    (fun p => (⟨32 * (p.1.1.val / 4) + p.2.val, by omega⟩, ⟨8 * (p.1.1.val % 4) + p.1.2.val, by omega⟩))
    (fun q => ((⟨4 * (q.1.val / 32) + q.2.val / 8, by omega⟩, ⟨q.2.val % 8, by omega⟩), ⟨q.1.val % 32, by omega⟩))
    (fun _ _ => by simp) (fun _ _ => by simp) ?_ ?_ (fun _ _ => rfl)
  · rintro ⟨⟨t, j⟩, b⟩ -
    refine Prod.ext (Prod.ext (Fin.ext ?_) (Fin.ext ?_)) (Fin.ext ?_) <;> dsimp only <;> omega
  · rintro ⟨B, j⟩ -
    refine Prod.ext (Fin.ext ?_) (Fin.ext ?_) <;> dsimp only <;> omega

end Cert.Spec

end
-- ==== Proof.KernelArray.lean ====
/-
  Hand-written, untrusted. What the kernel's result array holds after its run.
-/
module

public import proofs.«01_k».proof.Proof.Gen.KernelIdeal.Value
public import proofs.«01_k».proof.Proof.Entries
public import proofs.«01_k».proof.Proof.Spec

@[expose] public section

set_option maxRecDepth 16384

noncomputable section

namespace Cert.KernelIdeal.Result

open Cert.KernelIdeal Cert.KernelIdeal.Gen Cert.Spec Idealize.ShloMosaic Idealize.ShloMosaic.TcCoe Idealize.SL.Sem
open Idealize.ShloMosaic.Pipeline (Dat)

variable (m : (ℓ : Loc nD τ sig) → Buf (Elt Ideal) ℓ)

/-- The activations argument, by row and column. -/
abbrev acts (c : Dev nD) (i : Fin 16) (k : Fin 7168) : EReal := m ((c : Thread nD τ).loc main_arg0) (ix3 i 0 k)

/-- The weights argument, by output, block and byte. -/
abbrev bytes (c : Dev nD) (n : Fin 20480) (B : Fin 224) (r : Fin 34) : BitVec 8 :=
  m ((c : Thread nD τ).loc main_arg1) (ix3 n B r)

/-- Where the windows are at grid point `t`: the activations whole, block `t` of the outputs. -/
theorem idx : ∀ t : Fin cfg0.N,
    win0_0.index t = ![0, 0] ∧ win0_1.index t = ![0, 0, t.val] ∧ win0_2.index t = ![0, t.val] :=
  (by decide +kernel : ∀ t : Fin grid0.N, _)

/-- The activations as the region gets them: within a group of 32 blocks, lane before block. -/
theorem acts_at (c : Dev nD) (i : Fin 16) (k : Fin 7168) :
    V m c main_v2 (ix2 i k) = acts m c i ⟨k.val / 1024 * 1024 + k.val % 32 * 32 + k.val / 32 % 32, by omega⟩ := by
  entry_read
  pointwise

/-- The weights as the region gets them: byte, block, output. -/
theorem bytes_at (c : Dev nD) (r : Fin 34) (B : Fin 224) (n : Fin 20480) : V m c main_v3 (ix3 r B n) = bytes m c n B r := by
  entry_read
  pointwise

/-- The activations' block is the whole array. -/
theorem iblk0_at (c : Dev nD) (t : Fin cfg0.N) (i : Fin 16) (k : Fin 7168) :
    iblk m c 0 t (ix2 i k) = V m c main_v2 (ix2 i k) := by
  blk_ext [iblk, idx t]

/-- Output `n` of block `t`. -/
def out (t : Fin cfg0.N) (n : Fin 512) : Fin 20480 := ⟨512 * t.val + n.val, by have : t.val < 40 := t.isLt; omega⟩

/-- The weights' block holds outputs `512 t` to `512 t + 511`. -/
theorem iblk1_at (c : Dev nD) (t : Fin cfg0.N) (r : Fin 34) (B : Fin 224) (n : Fin 512) :
    iblk m c 1 t (ix3 r B n) = V m c main_v3 (ix3 r B (out t n)) := by
  unfold out
  blk_ext [iblk, idx t]

/-- A weight of the body, over the argument. -/
theorem weight_at (c : Dev nD) (t : Fin cfg0.N) (r : Fin 34) (B : Fin 224) (n : Fin 512) :
    Tile.weight (iblk m c 1 t) r B n
      = weight (bytes m c (out t n) B r) (bytes m c (out t n) B 0) (bytes m c (out t n) B 1) := by
  unfold Tile.weight weight
  rw [iblk1_at, iblk1_at, iblk1_at, bytes_at, bytes_at, bytes_at, Decode.scale_eq]

/-- One product of the body: step `t`, slab `j`, row `b` hold block `32 (t / 4) + b` and lane `8 (t % 4) + j`. -/
theorem product_at (c : Dev nD) (p : Fin cfg0.N) (i : Fin 16) (n : Fin 512) (t : Fin 28) (j : Fin 8) (b : Fin 32) :
    HMul.hMul (α := EReal) (β := EReal) (γ := EReal) (iblk m c 0 p (ix2 i ⟨256 * t.val + (j.val * 32 + b.val), by omega⟩))
        (Tile.weight (iblk m c 1 p) (Tile.code t j) ⟨32 * (Tile.grp t).val + b.val, by omega⟩ n)
      = summand (acts m c) (bytes m c) i (out p n) ⟨32 * (t.val / 4) + b.val, by omega⟩ ⟨8 * (t.val % 4) + j.val, by omega⟩ := by
  have hk : (⟨(256 * t.val + (j.val * 32 + b.val)) / 1024 * 1024 + (256 * t.val + (j.val * 32 + b.val)) % 32 * 32
      + (256 * t.val + (j.val * 32 + b.val)) / 32 % 32, by omega⟩ : Fin 7168)
      = ⟨(32 * (t.val / 4) + b.val) * 32 + (8 * (t.val % 4) + j.val), by omega⟩ := Fin.ext (by dsimp only; omega)
  rw [weight_at, iblk0_at, acts_at, hk]
  rfl

/-- The body's result at an entry of the block. -/
theorem point (c : Dev nD) (p : Fin cfg0.N) (i : Fin 16) (n : Fin 512) :
    out0_2 (iblk m c 0 p) (iblk m c 1 p) (ix2 i n) = Y (acts m c) (bytes m c) i (out p n) := by
  refine (Tile.out_at (iblk m c 0 p) (iblk m c 1 p) i n).trans ?_
  refine Eq.trans ?_ (regroup (summand (acts m c) (bytes m c) i (out p n)))
  exact Finset.sum_congr rfl fun t _ => Finset.sum_congr rfl fun j _ => Finset.sum_congr rfl fun b _ =>
    product_at m c p i n t j b

/-- The result array after the run. -/
theorem final (c : Dev nD) : (dats m 0 c).arrAt 2 cfg0.N
    = (fun y => Y (acts m c) (bytes m c) (y 0) (y 1) : Vec Ideal S16x20480 .bf16) := by
  refine (dats m 0 c).arrAt_eq_of_covers 2 _ (by decide +kernel) fun t hf y => ?_
  blk_simp [idx t]
  rw [after0_2]
  idx_vars y
  refine (point m c t _ _).trans (congrArg₂ (Y (acts m c) (bytes m c)) (Fin.ext ?_) (Fin.ext ?_))
  · blk_simp [idx t]
  · blk_simp [idx t]
    show 512 * t.val + y1.val = t.val * 512 + y1.val
    omega

end Cert.KernelIdeal.Result

end
-- ==== Proof.ReferenceArray.lean ====
/-
  Hand-written, untrusted. What the reference's result array holds after its run.
-/
module

public import proofs.«01_k».proof.Proof.Gen.ReferenceIdeal.Value
public import proofs.«01_k».proof.Proof.Spec
public import Idealize.ShloMosaic.Lib.Pipeline.ValueKit
public import Idealize.ShloMosaic.Lib.Pointwise
public import Idealize.ShloMosaic.Lib.BitcastConvert

@[expose] public section

set_option maxRecDepth 16384

noncomputable section

namespace Cert.ReferenceIdeal.Result

open Cert.ReferenceIdeal Cert.ReferenceIdeal.Gen Cert.Spec Idealize.ShloMosaic Idealize.ShloMosaic.TcCoe Idealize.SL.Sem
open Idealize.ShloMosaic.Pipeline (Dat)

/-- Two bytes widened to a word: the second above the first. -/
theorem widen_at {s : Shape} (t : Shape) (x : IVec s 8) (h : t.SplitsWords 16 s 8) (j : t.Idx) :
    Host.bitcastConvertWiden t 16 x h j
      = x (h.snoc j ⟨1, by rw [h.size_axis]; decide⟩) ++ x (h.snoc j ⟨0, by rw [h.size_axis]; decide⟩) := by
  apply BitVec.eq_of_getLsbD_eq
  intro q hq
  rw [Host.bitcastConvertWiden_getLsbD _ _ _ _ _ q hq, BitVec.getLsbD_append]
  by_cases hlo : q < 8
  · rw [if_pos hlo]
    have e1 : q / 8 = 0 := by omega
    have e2 : q % 8 = q := by omega
    simp only [e1, e2]
  · rw [if_neg hlo]
    have e1 : q / 8 = 1 := by omega
    have e2 : q % 8 = q - 8 := by omega
    simp only [e1, e2]

/-- The body's value at an entry. -/
theorem pay_at (s : Vec Ideal S20480x224 .i16) (q : Vec Ideal S20480x224x32 .i8) (x : Vec Ideal S16x224x32 .bf16)
    (i : Fin 16) (n : Fin 20480) :
    k0_pay1 (F := Ideal) s q x (ix2 i n) = ∑ B : Fin 224, ∑ j : Fin 32,
      x (ix3 i B j) * (FloatOps.sitofp (F := Ideal) .f32 (q (ix3 n B j)) * Ideal.ofBits .f16 (s (ix2 n B))) := by
  pointwise [k0_pay1]

/-- Appending a lane to a position. -/
theorem snoc_at (n : Fin 20480) (B : Fin 224) (k : Fin 2) :
    splits_S20480x224_w16_S20480x224x2_w8.snoc (ix2 n B) k = (ix3 n B k : S20480x224x2.Idx) := by
  funext a
  match a with
  | ⟨0, _⟩ => rfl
  | ⟨1, _⟩ => rfl
  | ⟨2, _⟩ => rfl

/-- The scale words, as the reference cuts them out of the weights. -/
theorem words_at (w : Vec Ideal S20480x224x34 .i8) (n : Fin 20480) (B : Fin 224) :
    Host.bitcastConvertWiden S20480x224 16 (extractStridedSlice S20480x224x2 ![0, 0, 0] w slices_S20480x224x34_S20480x224x2_0_0_0)
      splits_S20480x224_w16_S20480x224x2_w8 (ix2 n B) = w (ix3 n B 1) ++ w (ix3 n B 0) := by
  have h (k : Fin 2) : extractStridedSlice S20480x224x2 ![0, 0, 0] w slices_S20480x224x34_S20480x224x2_0_0_0 (ix3 n B k)
      = w (ix3 n B ⟨k.val, by omega⟩) := by pointwise
  rw [widen_at]
  refine congrArg₂ (· ++ ·) ?_ ?_
  · exact (congrArg _ (snoc_at n B 1)).trans (h 1)
  · exact (congrArg _ (snoc_at n B 0)).trans (h 0)

/-- The codes, as the reference cuts them out of the weights. -/
theorem codes_at (w : Vec Ideal S20480x224x34 .i8) (n : Fin 20480) (B : Fin 224) (j : Fin 32) :
    extractStridedSlice S20480x224x32 ![0, 0, 2] w slices_S20480x224x34_S20480x224x32_0_0_2 (ix3 n B j)
      = w (ix3 n B ⟨2 + j.val, by omega⟩) := by
  pointwise

/-- The activations, split into blocks. -/
theorem acts_at (x : Vec Ideal S16x1x7168 .bf16) (i : Fin 16) (B : Fin 224) (j : Fin 32) :
    shapeCast S16x224x32 x shapeCasts_S16x1x7168_S16x224x32 (ix3 i B j) = x (ix3 i 0 ⟨B.val * 32 + j.val, by omega⟩) := by
  pointwise

/-- The reference's value over its argument arrays, at an entry. -/
theorem value_at (x : Vec Ideal S16x1x7168 .bf16) (w : Vec Ideal S20480x224x34 .i8) (i : Fin 16) (n : Fin 20480) :
    k0_pay1 (F := Ideal)
      (Host.bitcastConvertWiden S20480x224 16
        (extractStridedSlice S20480x224x2 ![0, 0, 0] w slices_S20480x224x34_S20480x224x2_0_0_0)
        splits_S20480x224_w16_S20480x224x2_w8)
      (extractStridedSlice S20480x224x32 ![0, 0, 2] w slices_S20480x224x34_S20480x224x32_0_0_2)
      (shapeCast S16x224x32 x shapeCasts_S16x1x7168_S16x224x32) (ix2 i n)
    = Y (fun i k => x (ix3 i 0 k)) (fun n B r => w (ix3 n B r)) i n := by
  rw [pay_at]
  refine Finset.sum_congr rfl fun B _ => Finset.sum_congr rfl fun j _ => ?_
  rw [words_at, codes_at, acts_at]
  rfl

variable (m : (ℓ : Loc nD τ sig) → Buf (Elt Ideal) ℓ)

/-- At the one grid point every window is at the origin. -/
theorem idx : win0_0.index t0_0 = ![0, 0, 0] ∧ win0_1.index t0_0 = ![0, 0] ∧ win0_2.index t0_0 = ![0, 0, 0] := by
  decide +kernel

/-- Each window's block is its whole array. -/
theorem iblk0 (c : Dev nD) : iblk m c 0 t0_0
    = (shapeCast S16x224x32 (m ((c : Thread nD τ).loc main_arg0)) shapeCasts_S16x1x7168_S16x224x32 : Vec Ideal S16x224x32 .bf16) := by
  funext y
  blk_simp [iblk, idx]
  entry_read
  blk_ext [idx]

theorem iblk1 (c : Dev nD) : iblk m c 1 t0_0
    = (Host.bitcastConvertWiden S20480x224 16
        (extractStridedSlice S20480x224x2 ![0, 0, 0] (m ((c : Thread nD τ).loc main_arg1)) slices_S20480x224x34_S20480x224x2_0_0_0)
        splits_S20480x224_w16_S20480x224x2_w8 : Vec Ideal S20480x224 .i16) := by
  funext y
  blk_simp [iblk, idx]
  entry_read
  blk_ext [idx]

theorem iblk2 (c : Dev nD) : iblk m c 2 t0_0
    = (extractStridedSlice S20480x224x32 ![0, 0, 2] (m ((c : Thread nD τ).loc main_arg1))
        slices_S20480x224x34_S20480x224x32_0_0_2 : Vec Ideal S20480x224x32 .i8) := by
  funext y
  blk_simp [iblk, idx]
  entry_read
  blk_ext [idx]

/-- The result array, over the blocks. -/
theorem arr (c : Dev nD) : (dats m 0 c).arrAt 3 cfg0.N
    = k0_pay1 (F := Ideal) (iblk m c 1 t0_0) (iblk m c 2 t0_0) (iblk m c 0 t0_0) := by
  refine (dats m 0 c).arrAt_eq_of_after_last 3 t0_0 (by decide +kernel) _ fun j => ?_
  blk_simp
  rw [after0_3]
  frame_out

/-- The result array after the run, at an entry. -/
theorem final (c : Dev nD) (i : Fin 16) (n : Fin 20480) : (dats m 0 c).arrAt 3 cfg0.N (ix2 i n)
    = Y (fun i k => m ((c : Thread nD τ).loc main_arg0) (ix3 i 0 k)) (fun n B r => m ((c : Thread nD τ).loc main_arg1) (ix3 n B r)) i n := by
  rw [arr, iblk0, iblk1, iblk2]
  exact value_at _ _ i n

end Cert.ReferenceIdeal.Result

end
-- ==== Proof.lean ====
/-
  The proof of `Cert.Claim` (proofs.«01_k».proof.Defs), hand-written, untrusted. The three frames are the generated ones;
  the equation of the two programs is put together here: both result arrays are `Spec.Y` of the arguments
  (Proof/KernelArray.lean, Proof/ReferenceArray.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.KernelArray
public import proofs.«01_k».proof.Proof.ReferenceArray

@[expose] public section

set_option maxRecDepth 16384

noncomputable section

namespace Cert.Proof

open Idealize.ShloMosaic Idealize.ShloMosaic.TcCoe Idealize.SL.Sem

/-- From memories that agree on the arguments, the two result arrays are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.Gen.dats m' 0 c).arrAt 3 Cert.ReferenceIdeal.cfg0.N
      = (Cert.KernelIdeal.Gen.dats m 0 c).arrAt 2 Cert.KernelIdeal.cfg0.N := by
  rw [Cert.KernelIdeal.Result.final m c]
  funext y
  have hy : y = ix2 (y 0) (y 1) := eq_ix2 y
  refine (congrArg _ hy).trans ((Cert.ReferenceIdeal.Result.final m' c (y 0) (y 1)).trans ?_)
  rw [h0, h1]

/-- The kernel and the reference leave the same result. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => (Cert.KernelIdeal.Gen.dats m 0 c).arrAt 2 Cert.KernelIdeal.cfg0.N,
    Cert.KernelIdeal.Value.run_blocks m g, ?_⟩
  refine (θ_run Cert.ReferenceIdeal.defs _ _).mono (fun r hr c => ?_) (Cert.ReferenceIdeal.Value.run_blocks m' g')
  exact ⟨(hr c).1.trans (results_eq m m' c (h c).1 (h c).2), (hr c).2⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
